-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "edge_1" .f32 0xBF666666#32 ((-9 / 10 : ℝ) : EReal)
  ∧ IdealRules.named_const.Statement Cert.KernelIdeal.κ "edge_2" .f32 0xBF4CCCCD#32 ((-4 / 5 : ℝ) : EReal)
  ∧ IdealRules.named_const.Statement Cert.KernelIdeal.κ "edge_3" .f32 0xBF333333#32 ((-7 / 10 : ℝ) : EReal)
  ∧ IdealRules.named_const.Statement Cert.KernelIdeal.κ "edge_4" .f32 0xBF19999A#32 ((-3 / 5 : ℝ) : EReal)
  ∧ IdealRules.named_const.Statement Cert.KernelIdeal.κ "edge_6" .f32 0xBECCCCCD#32 ((-2 / 5 : ℝ) : EReal)
  ∧ IdealRules.named_const.Statement Cert.KernelIdeal.κ "edge_7" .f32 0xBE99999A#32 ((-3 / 10 : ℝ) : EReal)
  ∧ IdealRules.named_const.Statement Cert.KernelIdeal.κ "edge_8" .f32 0xBE4CCCCD#32 ((-1 / 5 : ℝ) : EReal)
  ∧ IdealRules.named_const.Statement Cert.KernelIdeal.κ "edge_9" .f32 0xBDCCCCCD#32 ((-1 / 10 : ℝ) : EReal)
  ∧ IdealRules.named_const.Statement Cert.KernelIdeal.κ "edge_11" .f32 0x3DCCCCCD#32 ((1 / 10 : ℝ) : EReal)
  ∧ IdealRules.named_const.Statement Cert.KernelIdeal.κ "edge_12" .f32 0x3E4CCCCD#32 ((1 / 5 : ℝ) : EReal)
  ∧ IdealRules.named_const.Statement Cert.KernelIdeal.κ "edge_13" .f32 0x3E99999A#32 ((3 / 10 : ℝ) : EReal)
  ∧ IdealRules.named_const.Statement Cert.KernelIdeal.κ "edge_14" .f32 0x3ECCCCCD#32 ((2 / 5 : ℝ) : EReal)
  ∧ IdealRules.named_const.Statement Cert.KernelIdeal.κ "edge_16" .f32 0x3F19999A#32 ((3 / 5 : ℝ) : EReal)
  ∧ IdealRules.named_const.Statement Cert.KernelIdeal.κ "edge_17" .f32 0x3F333333#32 ((7 / 10 : ℝ) : EReal)
  ∧ IdealRules.named_const.Statement Cert.KernelIdeal.κ "edge_18" .f32 0x3F4CCCCD#32 ((4 / 5 : ℝ) : EReal)
  ∧ IdealRules.named_const.Statement Cert.KernelIdeal.κ "edge_19" .f32 0x3F666666#32 ((9 / 10 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1048576x20 : Shape := ⟨2, ![1048576, 20]⟩
abbrev S1048576 : Shape := ⟨1, ![1048576]⟩
abbrev S_ : Shape := ⟨0, ![]⟩

class Facts : Prop where
  bcast_S_S1048576x20 : S_.BroadcastsInDim S1048576x20 (![] : Fin 0 → Fin S1048576x20.rank)
  reducesTo_S1048576x20_S_d0_1 : S1048576x20.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x20 .f32) (main_arg1 : FVec F S1048576 .f32) : IVec S_ 1 :=
  let main_cst : FVec F S_ .f32 := constant S_ .f32 0x7F800000#32
  let main_v0 : FVec F S1048576x20 .f32 := broadcastInDim S1048576x20 ![] bcast_S_S1048576x20 main_cst
  let main_v1 : IVec S1048576x20 1 := cmpf .olt main_arg0 main_v0
  let main_c : IVec S_ 1 := constantI S_ 1 1#1
  let main_v2 : IVec S_ 1 := (fun x v => Host.reduce IntOp.andi x v reducesTo_S1048576x20_S_d0_1 h_S_) main_v1 main_c
  let main_cst_0 : FVec F S_ .f32 := constant S_ .f32 0x3F800000#32
  let main_v3 : FVec F S1048576 .f32 := broadcastInDim S1048576 ![] bcast_S_S1048576 main_cst_0
  let main_v4 : IVec S1048576 1 := cmpf .ole main_arg1 main_v3
  let main_c_1 : IVec S_ 1 := constantI S_ 1 1#1
  let main_v5 : IVec S_ 1 := (fun x v => Host.reduce IntOp.andi x v reducesTo_S1048576_S_d0 h_S_) main_v4 main_c_1
  let main_v6 : IVec S_ 1 := andi main_v2 main_v5
  main_v6
-- ==== Kernel.lean ====
abbrev S1048576x20 : Shape := ⟨2, ![1048576, 20]⟩
abbrev S1048576 : Shape := ⟨1, ![1048576]⟩
abbrev S1048576x1 : Shape := ⟨2, ![1048576, 1]⟩
abbrev S1x1 : Shape := ⟨2, ![1, 1]⟩
abbrev S4096x20 : Shape := ⟨2, ![4096, 20]⟩
abbrev S4096x1 : Shape := ⟨2, ![4096, 1]⟩
abbrev S1x4096x20 : Shape := ⟨3, ![1, 4096, 20]⟩
abbrev S1 : Shape := ⟨1, ![1]⟩
abbrev S1x1x1 : Shape := ⟨3, ![1, 1, 1]⟩
abbrev S4096 : Shape := ⟨1, ![4096]⟩
abbrev S1x4096 : Shape := ⟨2, ![1, 4096]⟩
abbrev S_ : Shape := ⟨0, ![]⟩

abbrev nBuf : Space → Nat
  | .hbm => 5
  | .vmem => 4
  | .smem => 1
  | _ => 0

abbrev bufTy : (tb : Table) → Fin (tcTables nBuf tb) → BufTy
  | .hbm, ⟨0, _⟩ => ⟨S1048576x20, .f32⟩
  | .hbm, ⟨1, _⟩ => ⟨S1048576, .f32⟩
  | .hbm, ⟨2, _⟩ => ⟨S1048576x1, .f32⟩
  | .hbm, ⟨3, _⟩ => ⟨S1x1, .f32⟩
  | .hbm, ⟨4, _⟩ => ⟨S_, .f32⟩
  | .local _ .vmem, ⟨0, _⟩ => ⟨S4096x20, .f32⟩
  | .local _ .vmem, ⟨1, _⟩ => ⟨S4096x20, .f32⟩
  | .local _ .vmem, ⟨2, _⟩ => ⟨S4096x1, .f32⟩
  | .local _ .vmem, ⟨3, _⟩ => ⟨S4096x1, .f32⟩
  | .local _ .smem, ⟨0, _⟩ => ⟨S1x1, .f32⟩
  | _, _ => ⟨S1048576x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "edge_1" => some ((-9 / 10 : ℝ) : EReal)
  | "edge_11" => some ((1 / 10 : ℝ) : EReal)
  | "edge_12" => some ((1 / 5 : ℝ) : EReal)
  | "edge_13" => some ((3 / 10 : ℝ) : EReal)
  | "edge_14" => some ((2 / 5 : ℝ) : EReal)
  | "edge_16" => some ((3 / 5 : ℝ) : EReal)
  | "edge_17" => some ((7 / 10 : ℝ) : EReal)
  | "edge_18" => some ((4 / 5 : ℝ) : EReal)
  | "edge_19" => some ((9 / 10 : ℝ) : EReal)
  | "edge_2" => some ((-4 / 5 : ℝ) : EReal)
  | "edge_3" => some ((-7 / 10 : ℝ) : EReal)
  | "edge_4" => some ((-3 / 5 : ℝ) : EReal)
  | "edge_6" => some ((-2 / 5 : ℝ) : EReal)
  | "edge_7" => some ((-3 / 10 : ℝ) : EReal)
  | "edge_8" => some ((-1 / 5 : ℝ) : EReal)
  | "edge_9" => some ((-1 / 10 : ℝ) : EReal)
  | _ => none
-- ==== ReferenceIdeal.lean ====
abbrev S1048576x20 : Shape := ⟨2, ![1048576, 20]⟩
abbrev S1048576 : Shape := ⟨1, ![1048576]⟩
abbrev S_ : Shape := ⟨0, ![]⟩
abbrev S20 : Shape := ⟨1, ![20]⟩
abbrev S1 : Shape := ⟨1, ![1]⟩
abbrev S21 : Shape := ⟨1, ![21]⟩
abbrev S1x21 : Shape := ⟨2, ![1, 21]⟩
abbrev S1048576x1 : Shape := ⟨2, ![1048576, 1]⟩
abbrev S1048576x21 : Shape := ⟨2, ![1048576, 21]⟩
abbrev S1048576x1x1 : Shape := ⟨3, ![1048576, 1, 1]⟩
abbrev S1x1x1 : Shape := ⟨3, ![1, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S1048576x20, .f32⟩
  | .hbm, ⟨1, _⟩ => ⟨S1048576, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S20, .f32⟩
  | .hbm, ⟨10, _⟩ => ⟨S_, .f32⟩
  | .hbm, ⟨11, _⟩ => ⟨S20, .f32⟩
  | .hbm, ⟨12, _⟩ => ⟨S20, .f32⟩
  | .hbm, ⟨13, _⟩ => ⟨S1, .f32⟩
  | .hbm, ⟨14, _⟩ => ⟨S_, .f32⟩
  | .hbm, ⟨15, _⟩ => ⟨S20, .f32⟩
  | .hbm, ⟨16, _⟩ => ⟨S20, .f32⟩
  | .hbm, ⟨17, _⟩ => ⟨S20, .f32⟩
  | .hbm, ⟨18, _⟩ => ⟨S20, .f32⟩
  | .hbm, ⟨19, _⟩ => ⟨S1, .f32⟩
  | .hbm, ⟨20, _⟩ => ⟨S20, .f32⟩
  | .hbm, ⟨21, _⟩ => ⟨S20, .f32⟩
  | .hbm, ⟨22, _⟩ => ⟨S20, .f32⟩
  | .hbm, ⟨23, _⟩ => ⟨S1, .f32⟩
  | .hbm, ⟨24, _⟩ => ⟨S21, .f32⟩
  | .hbm, ⟨25, _⟩ => ⟨S1x21, .f32⟩
  | .hbm, ⟨26, _⟩ => ⟨S1048576x1, .f32⟩
  | .hbm, ⟨27, _⟩ => ⟨S1048576x21, .f32⟩
  | .hbm, ⟨28, _⟩ => ⟨S1048576x21, .f32⟩
  | .hbm, ⟨29, _⟩ => ⟨S1048576x21, .i1⟩
  | .hbm, ⟨30, _⟩ => ⟨S1048576x21, .i32⟩
  | .hbm, ⟨31, _⟩ => ⟨S_, .i32⟩
  | .hbm, ⟨32, _⟩ => ⟨S1048576, .i32⟩
  | .hbm, ⟨33, _⟩ => ⟨S_, .i32⟩
  | .hbm, ⟨34, _⟩ => ⟨S1048576, .i32⟩
  | .hbm, ⟨35, _⟩ => ⟨S1048576, .i1⟩
  | .hbm, ⟨36, _⟩ => ⟨S_, .i32⟩
  | .hbm, ⟨37, _⟩ => ⟨S_, .i32⟩
  | .hbm, ⟨38, _⟩ => ⟨S1048576, .i32⟩
  | .hbm, ⟨39, _⟩ => ⟨S1048576, .i32⟩
  | .hbm, ⟨40, _⟩ => ⟨S_, .f32⟩
  | .hbm, ⟨41, _⟩ => ⟨S1048576, .f32⟩
  | .hbm, ⟨42, _⟩ => ⟨S1048576x1, .f32⟩
  | .hbm, ⟨43, _⟩ => ⟨S1048576x20, .f32⟩
  | .hbm, ⟨44, _⟩ => ⟨S1048576x20, .f32⟩
  | .hbm, ⟨45, _⟩ => ⟨S1048576x20, .f32⟩
  | .hbm, ⟨46, _⟩ => ⟨S_, .f32⟩
  | .hbm, ⟨47, _⟩ => ⟨S1048576, .f32⟩
  | .hbm, ⟨48, _⟩ => ⟨S1048576, .f32⟩
  | .hbm, ⟨49, _⟩ => ⟨S1048576, .f32⟩
  | .hbm, ⟨50, _⟩ => ⟨S1048576x1, .i32⟩
  | .hbm, ⟨51, _⟩ => ⟨S_, .i32⟩
  | .hbm, ⟨52, _⟩ => ⟨S1048576x1, .i32⟩
  | .hbm, ⟨53, _⟩ => ⟨S1048576x1, .i1⟩
  | .hbm, ⟨54, _⟩ => ⟨S_, .i32⟩
  | .hbm, ⟨55, _⟩ => ⟨S1048576x1, .i32⟩
  | .hbm, ⟨56, _⟩ => ⟨S1048576x1, .i32⟩
  | .hbm, ⟨57, _⟩ => ⟨S1048576x1, .i32⟩
  | .hbm, ⟨58, _⟩ => ⟨S1048576x1x1, .i32⟩
  | .hbm, ⟨59, _⟩ => ⟨S1, .i32⟩
  | .hbm, ⟨60, _⟩ => ⟨S_, .i32⟩
  | .hbm, ⟨61, _⟩ => ⟨S1048576x1x1, .i32⟩
  | .hbm, ⟨62, _⟩ => ⟨S1048576x1x1, .i1⟩
  | .hbm, ⟨63, _⟩ => ⟨S1x1x1, .i32⟩
  | .hbm, ⟨64, _⟩ => ⟨S1048576x1x1, .i32⟩
  | .hbm, ⟨65, _⟩ => ⟨S1048576x1x1, .i1⟩
  | .hbm, ⟨66, _⟩ => ⟨S1048576x1x1, .i1⟩
  | .hbm, ⟨67, _⟩ => ⟨S_, .i1⟩
  | .hbm, ⟨68, _⟩ => ⟨S1048576x1, .i1⟩
  | .hbm, ⟨69, _⟩ => ⟨S1048576x1, .f32⟩
  | .hbm, ⟨70, _⟩ => ⟨S_, .f32⟩
  | .hbm, ⟨71, _⟩ => ⟨S1048576x1, .f32⟩
  | .hbm, ⟨72, _⟩ => ⟨S1048576x1, .f32⟩
  | .hbm, ⟨73, _⟩ => ⟨S1048576, .f32⟩
  | .hbm, ⟨74, _⟩ => ⟨S1048576, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S1048576x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_5 : Ref sig .tc := ⟨.hbm, 75, rfl⟩
abbrev main_v23 : Ref sig .tc := ⟨.hbm, 76, rfl⟩
abbrev main_cst_6 : Ref sig .tc := ⟨.hbm, 77, rfl⟩
abbrev main_v24 : Ref sig .tc := ⟨.hbm, 78, rfl⟩

abbrev nD : Nat := 1
abbrev τ : Topo := Topo.v7x

variable {F : FTy → Type} [FloatOps F]
-- ==== Proof.Consts.lean ====
/- The float constants of the two programs as the extended reals their patterns denote. -/
module

public import Idealize.ShloMosaic.PureOps.Ideal

@[expose] public section

noncomputable section

namespace Cert.Consts

open Idealize.ShloMosaic

/-- `-1.0` denotes the real `-1`. -/
theorem ofBits_neg_one : Ideal.ofBits .f32 0xBF800000#32 = ((-1 : ℝ) : EReal) := by
  simp [Ideal.ofBits, Ideal.ieee, -EReal.coe_mul, -EReal.coe_neg, -EReal.coe_one]; norm_num

/-- `-0.5` denotes the real `-1/2`. -/
theorem ofBits_neg_half : Ideal.ofBits .f32 0xBF000000#32 = ((-1 / 2 : ℝ) : EReal) := by
  simp [Ideal.ofBits, Ideal.ieee, -EReal.coe_mul, -EReal.coe_neg]; norm_num

/-- `0.5` denotes the real `1/2`. -/
theorem ofBits_half : Ideal.ofBits .f32 0x3F000000#32 = ((1 / 2 : ℝ) : EReal) := by
  simp [Ideal.ofBits, Ideal.ieee, -EReal.coe_mul]; norm_num

/-- `20.0` denotes the real `20`. -/
theorem ofBits_twenty : Ideal.ofBits .f32 0x41A00000#32 = ((20 : ℝ) : EReal) := by
  simp [Ideal.ofBits, Ideal.ieee, -EReal.coe_mul]; norm_num

/-- The pattern of `+∞` denotes `+∞`. -/
theorem ofBits_top : Ideal.ofBits .f32 0x7F800000#32 = ⊤ := by
  simp [Ideal.ofBits, Ideal.ieee]

/-- The pattern of `-∞` denotes `-∞`. -/
theorem ofBits_bot : Ideal.ofBits .f32 0xFF800000#32 = ⊥ := by
  simp [Ideal.ofBits, Ideal.ieee]

end Cert.Consts

end
-- ==== Proof.Words.lean ====
/- The 32-bit words the two programs count in, as the natural numbers they stand for. -/
module

public import Idealize.ShloMosaic.PureOps.Ideal
public import Idealize.ShloMosaic.PureOps.Reduce
public import Mathlib.Data.Finset.Fold

@[expose] public section

namespace Cert.Loss

open Idealize.ShloMosaic

/-- A comparison's bit widened to a word is one or zero. -/
theorem word_bit (p : Prop) [Decidable p] : BitVec.setWidth 32 (BitVec.ofBool (decide p)) = BitVec.ofNat 32 (if p then 1 else 0) := by
  by_cases h : p <;> simp [h]

/-- The sum of two words is the word of the sum. -/
theorem addi_ofNat (a b : ℕ) : IntOp.addi (BitVec.ofNat 32 a) (BitVec.ofNat 32 b) = BitVec.ofNat 32 (a + b) := by
  simp [IntOp.addi, BitVec.ofNat_add]

/-- A small count clamped to nineteen. -/
theorem minsi_ofNat (n : ℕ) (h : n ≤ 21) : IntOp.minsi (BitVec.ofNat 32 n) 19#32 = BitVec.ofNat 32 (min n 19) := by
  interval_cases n <;> rfl

/-- Two small words are equal where their numbers are. -/
theorem cmpi_eq_ofNat (i j : Fin 20) : IntOp.cmpi .eq (BitVec.ofNat 32 i.val) (BitVec.ofNat 32 j.val) = BitVec.ofBool (decide (i = j)) := by
  revert i j; decide +kernel

/-- A choice by the equality of two small words. -/
theorem select_eq_ofNat {α : Type} (i j : Fin 20) (a b : α) :
    Scalar.select (IntOp.cmpi .eq (BitVec.ofNat 32 i.val) (BitVec.ofNat 32 j.val)) a b = if i = j then a else b := by
  rw [cmpi_eq_ofNat]
  by_cases h : i = j <;> simp [h, Scalar.select]

/-- The count twenty, the last edge of all, is sent to class nineteen; a smaller one is its own class. -/
theorem select_twenty (n : ℕ) (h : n ≤ 20) :
    Scalar.select (IntOp.cmpi .eq (BitVec.ofNat 32 n) 20#32) 19#32 (BitVec.ofNat 32 n) = BitVec.ofNat 32 (min n 19) := by
  interval_cases n <;> rfl

/-- Folding the words' addition over words of numbers is the word of the sum. -/
theorem fold_addi_ofNat {ι : Type} [DecidableEq ι] (s : Finset ι) (f : ι → ℕ) :
    s.fold (IntOp.addi (w := 32)) 0#32 (fun i => BitVec.ofNat 32 (f i)) = BitVec.ofNat 32 (∑ i ∈ s, f i) := by
  induction s using Finset.induction_on with
  | empty => rfl
  | insert a s ha ih => rw [Finset.fold_insert ha, Finset.sum_insert ha, ih, addi_ofNat]

end Cert.Loss
-- ==== Proof.InRange.lean ====
/- What the precondition says: no logit is plus infinity, and no target is above one. -/
module

public import proofs.«01_k».proof.Proof.Consts
public import proofs.«01_k».proof.Proof.Words
public import proofs.«01_k».proof.Proof.Gen.Pre_in_range
public import Idealize.ShloMosaic.Lib.ReduceAll
public import Idealize.ShloMosaic.Lib.Pipeline.ValueKit
public import Idealize.ShloMosaic.Lib.Pointwise

@[expose] public section

noncomputable section

namespace Cert.Pre_in_range

open Idealize.ShloMosaic Facts

/-- A scalar has one index. -/
local instance : Subsingleton S_.Idx := ⟨fun a b => funext fun d => d.elim0⟩

variable {x : FVec Ideal S1048576x20 .f32} {t : FVec Ideal S1048576 .f32}

/-- A comparison whose bit is one holds. -/
theorem of_bit {p : Prop} [Decidable p] (h : BitVec.ofBool (decide p) = 1#1) : p := by
  by_contra hp
  simp [hp] at h

/-- The precondition's two halves. -/
theorem halves [Facts] (h : fn x t = fun _ => 1#1) :
    (∀ k, cmpf .olt x (broadcastInDim S1048576x20 ![] bcast_S_S1048576x20 (constant S_ .f32 0x7F800000#32)) k = 1#1)
      ∧ ∀ k, cmpf .ole t (broadcastInDim S1048576 ![] bcast_S_S1048576 (constant S_ .f32 0x3F800000#32)) k = 1#1 := by
  have h0 := congrFun h (fun d => d.elim0)
  dsimp only [fn] at h0
  have h1 := (IntOp.andi_eq_one.mp h0)
  exact ⟨Host.reduce_andi_all _ _ _ _ _ h1.1, Host.reduce_andi_all _ _ _ _ _ h1.2⟩

/-- No logit is plus infinity. -/
theorem logits [Facts] (h : fn x t = fun _ => 1#1) (i : Fin 1048576) (j : Fin 20) : x (ix2 i j) ≠ (⊤ : EReal) := by
  have h1 := (halves h).1 (ix2 i j)
  pointwise at h1
  rw [Cert.Consts.ofBits_top] at h1
  exact ne_of_lt (of_bit h1)

/-- No target is above one. -/
theorem targets [Facts] (h : fn x t = fun _ => 1#1) (i : Fin 1048576) : t (ix1 i) ≤ (1 : EReal) := by
  have h1 := (halves h).2 (ix1 i)
  pointwise at h1
  exact of_bit h1

end Cert.Pre_in_range

end
-- ==== Proof.Loss.lean ====
/- The mathematics of the loss, free of any program: the class of a target among twenty-one edges, the logarithm
   of a sum of exponentials and its invariance under a real shift, and a sum of differences over finite sets of extended
   reals. -/
module

public import Idealize.ShloMosaic.PureOps.Ideal
public import Mathlib.Algebra.BigOperators.Fin

@[expose] public section

noncomputable section

namespace Cert.Loss

open Idealize.ShloMosaic

/-- Edge `k` of the twenty equal bins of `[-1, 1]`: `-1 + k / 10`. -/
def edge (k : Fin 21) : EReal := ((((k : ℕ) : ℝ) - 10) / 10 : ℝ)

/-- How many edges lie strictly below the target. -/
def below (t : EReal) : ℕ := ∑ k : Fin 21, if edge k < t then 1 else 0

/-- The target's class: the number of edges below it, the last class taking what lies beyond. -/
def label (t : EReal) : Fin 20 := ⟨min (below t) 19, by omega⟩

/-- The logarithm of the sum of the exponentials of a row of logits. -/
def lse (x : Fin 20 → EReal) : EReal := Ideal.log (∑ j, Ideal.exp (x j))

/-- At most all the edges are below a target. -/
theorem below_le (t : EReal) : below t ≤ 21 := by
  unfold below
  refine (Finset.sum_le_sum (g := fun _ => 1) fun k _ => ?_).trans (by simp)
  split <;> omega

/-- A target that is at most the last edge has at most twenty edges below it. -/
theorem below_le_of_le {t : EReal} (ht : t ≤ 1) : below t ≤ 20 := by
  unfold below
  rw [Fin.sum_univ_castSucc]
  have h20 : ¬ edge (Fin.last 20) < t := by
    have : edge (Fin.last 20) = 1 := by unfold edge; norm_num
    rw [this]; exact not_lt.mpr ht
  rw [if_neg h20, add_zero]
  refine (Finset.sum_le_sum (g := fun _ => 1) fun k _ => ?_).trans (by simp)
  split <;> omega

/-- A sum of reals read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Below `+∞` the exponential is a real number that is not negative, and a real shift of the argument divides it. -/
theorem exp_real {x : EReal} (hx : x ≠ ⊤) : ∃ r : ℝ, 0 ≤ r ∧ Ideal.exp x = r
    ∧ ∀ s : ℝ, Ideal.exp (x - s) = ((r * Real.exp (-s) : ℝ) : EReal) := by
  induction x using EReal.rec with
  | bot => exact ⟨0, le_rfl, by simp, fun s => by simp [EReal.bot_sub]⟩
  | top => exact absurd rfl hx
  | coe r =>
    refine ⟨Real.exp r, (Real.exp_pos r).le, rfl, fun s => ?_⟩
    rw [← EReal.coe_sub, Ideal.exp_coe, ← Real.exp_add, sub_eq_add_neg]

/-- A log-sum-exp about a real, added back, is the plain one. -/
theorem lse_shift (x : Fin 20 → EReal) (hx : ∀ j, x j ≠ ⊤) (s : ℝ) :
    s + Ideal.log (∑ j, Ideal.exp (x j - s)) = lse x := by
  choose f hf he hs using fun j => exp_real (hx j)
  have h1 : ∑ j, Ideal.exp (x j - s) = (((∑ j, f j) * Real.exp (-s) : ℝ) : EReal) := by
    rw [Finset.sum_congr rfl fun j _ => hs j s, coe_sum, Finset.sum_mul]
  have h2 : ∑ j, Ideal.exp (x j) = ((∑ j, f j : ℝ) : EReal) := by
    rw [Finset.sum_congr rfl fun j _ => he j, coe_sum]
  have h0 : 0 ≤ ∑ j, f j := Finset.sum_nonneg fun j _ => hf j
  have hp := Real.exp_pos (-s)
  unfold lse
  rw [h1, h2, Ideal.log_coe, Ideal.log_coe]
  rcases h0.eq_or_lt with h | h
  · rw [← h]; simp
  · rw [if_neg (not_le.mpr (mul_pos h hp)), if_neg (not_le.mpr h), ← EReal.coe_add, Real.log_mul h.ne' hp.ne', Real.log_exp]
    congr 1; ring

/-- A row's log-sum-exp about its maximum, as a numerically careful program computes it, is the plain one where no
    entry is `+∞`: the maximum is then real, or it is `-∞` and so is every entry and both sides. -/
theorem lse_max (x : Fin 20 → EReal) (hx : ∀ j, x j ≠ ⊤) :
    Finset.univ.fold max ⊥ x + Ideal.log (∑ j, Ideal.exp (x j - Finset.univ.fold max ⊥ x)) = lse x := by
  have hle (j : Fin 20) : x j ≤ Finset.univ.fold max ⊥ x := Finset.le_fold_max _ |>.mpr (.inr ⟨j, Finset.mem_univ j, le_rfl⟩)
  have htop : Finset.univ.fold max ⊥ x < ⊤ :=
    Finset.fold_max_lt _ |>.mpr ⟨bot_lt_top, fun j _ => lt_top_iff_ne_top.mpr (hx j)⟩
  revert hle htop
  generalize Finset.univ.fold max ⊥ x = M
  intro hle htop
  induction M using EReal.rec with
  | top => exact absurd htop (lt_irrefl _)
  | coe r => exact lse_shift x hx r
  | bot =>
    have hb (j : Fin 20) : x j = ⊥ := le_bot_iff.mp (hle j)
    have h0 : Ideal.log 0 = ⊥ := by rw [← EReal.coe_zero, Ideal.log_coe, if_pos le_rfl]
    unfold lse
    simp [hb, h0]

/-- No logit is `+∞`, so no sum of chosen logits is. -/
theorem sum_ne_top {ι : Type} (s : Finset ι) (b : ι → EReal) (hb : ∀ i, b i ≠ ⊤) : ∑ i ∈ s, b i ≠ ⊤ := by
  classical
  induction s using Finset.induction_on with
  | empty => simp
  | insert a s ha ih => rw [Finset.sum_insert ha]; exact EReal.add_ne_top (hb a) ih

/-- A difference of sums is the sum of the differences where what is subtracted is never `+∞`. -/
theorem sum_sub_sum {ι : Type} (s : Finset ι) (a b : ι → EReal) (hb : ∀ i, b i ≠ ⊤) :
    ∑ i ∈ s, a i - ∑ i ∈ s, b i = ∑ i ∈ s, (a i - b i) := by
  classical
  induction s using Finset.induction_on with
  | empty => simp
  | insert k s hk ih =>
    rw [Finset.sum_insert hk, Finset.sum_insert hk, Finset.sum_insert hk, ← ih, sub_eq_add_neg, sub_eq_add_neg,
      sub_eq_add_neg, EReal.neg_add (.inr (sum_ne_top s b hb)) (.inl (hb k)), sub_eq_add_neg, add_add_add_comm]

/-- A sum over a row that keeps one entry is that entry. -/
theorem sum_pick (x : Fin 20 → EReal) (y : Fin 20) : ∑ j, (if j = y then x j else 0) = x y := by
  rw [Finset.sum_ite_eq' Finset.univ y x, if_pos (Finset.mem_univ y)]

end Cert.Loss

end
-- ==== Proof.Block.lean ====
/- What one grid point of the kernel computes: the sum over its 4096 rows of the row's loss. -/
module

public import proofs.«01_k».proof.Proof.Loss
public import proofs.«01_k».proof.Proof.Consts
public import proofs.«01_k».proof.Proof.Words
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Loss

/-! ## The literals the kernel compares with are the edges -/

/-- The name `edge_1` denotes edge 1. -/
theorem edge_1 : Named.named (F := Ideal) κ "edge_1" (φ := .f32) 0xBF666666#32 = edge 1 := by
  rw [show Named.named (F := Ideal) κ "edge_1" (φ := .f32) 0xBF666666#32 = _ from IdealRules.named_const.ideal_named_scalar _ _ _ _ rfl]
  simp only [edge]; norm_num

/-- The name `edge_2` denotes edge 2. -/
theorem edge_2 : Named.named (F := Ideal) κ "edge_2" (φ := .f32) 0xBF4CCCCD#32 = edge 2 := by
  rw [show Named.named (F := Ideal) κ "edge_2" (φ := .f32) 0xBF4CCCCD#32 = _ from IdealRules.named_const.ideal_named_scalar _ _ _ _ rfl]
  simp only [edge]; norm_num

/-- The name `edge_3` denotes edge 3. -/
theorem edge_3 : Named.named (F := Ideal) κ "edge_3" (φ := .f32) 0xBF333333#32 = edge 3 := by
  rw [show Named.named (F := Ideal) κ "edge_3" (φ := .f32) 0xBF333333#32 = _ from IdealRules.named_const.ideal_named_scalar _ _ _ _ rfl]
  simp only [edge]; norm_num

/-- The name `edge_4` denotes edge 4. -/
theorem edge_4 : Named.named (F := Ideal) κ "edge_4" (φ := .f32) 0xBF19999A#32 = edge 4 := by
  rw [show Named.named (F := Ideal) κ "edge_4" (φ := .f32) 0xBF19999A#32 = _ from IdealRules.named_const.ideal_named_scalar _ _ _ _ rfl]
  simp only [edge]; norm_num

/-- The name `edge_6` denotes edge 6. -/
theorem edge_6 : Named.named (F := Ideal) κ "edge_6" (φ := .f32) 0xBECCCCCD#32 = edge 6 := by
  rw [show Named.named (F := Ideal) κ "edge_6" (φ := .f32) 0xBECCCCCD#32 = _ from IdealRules.named_const.ideal_named_scalar _ _ _ _ rfl]
  simp only [edge]; norm_num

/-- The name `edge_7` denotes edge 7. -/
theorem edge_7 : Named.named (F := Ideal) κ "edge_7" (φ := .f32) 0xBE99999A#32 = edge 7 := by
  rw [show Named.named (F := Ideal) κ "edge_7" (φ := .f32) 0xBE99999A#32 = _ from IdealRules.named_const.ideal_named_scalar _ _ _ _ rfl]
  simp only [edge]; norm_num

/-- The name `edge_8` denotes edge 8. -/
theorem edge_8 : Named.named (F := Ideal) κ "edge_8" (φ := .f32) 0xBE4CCCCD#32 = edge 8 := by
  rw [show Named.named (F := Ideal) κ "edge_8" (φ := .f32) 0xBE4CCCCD#32 = _ from IdealRules.named_const.ideal_named_scalar _ _ _ _ rfl]
  simp only [edge]; norm_num

/-- The name `edge_9` denotes edge 9. -/
theorem edge_9 : Named.named (F := Ideal) κ "edge_9" (φ := .f32) 0xBDCCCCCD#32 = edge 9 := by
  rw [show Named.named (F := Ideal) κ "edge_9" (φ := .f32) 0xBDCCCCCD#32 = _ from IdealRules.named_const.ideal_named_scalar _ _ _ _ rfl]
  simp only [edge]; norm_num

/-- The name `edge_11` denotes edge 11. -/
theorem edge_11 : Named.named (F := Ideal) κ "edge_11" (φ := .f32) 0x3DCCCCCD#32 = edge 11 := by
  rw [show Named.named (F := Ideal) κ "edge_11" (φ := .f32) 0x3DCCCCCD#32 = _ from IdealRules.named_const.ideal_named_scalar _ _ _ _ rfl]
  simp only [edge]; norm_num

/-- The name `edge_12` denotes edge 12. -/
theorem edge_12 : Named.named (F := Ideal) κ "edge_12" (φ := .f32) 0x3E4CCCCD#32 = edge 12 := by
  rw [show Named.named (F := Ideal) κ "edge_12" (φ := .f32) 0x3E4CCCCD#32 = _ from IdealRules.named_const.ideal_named_scalar _ _ _ _ rfl]
  simp only [edge]; norm_num

/-- The name `edge_13` denotes edge 13. -/
theorem edge_13 : Named.named (F := Ideal) κ "edge_13" (φ := .f32) 0x3E99999A#32 = edge 13 := by
  rw [show Named.named (F := Ideal) κ "edge_13" (φ := .f32) 0x3E99999A#32 = _ from IdealRules.named_const.ideal_named_scalar _ _ _ _ rfl]
  simp only [edge]; norm_num

/-- The name `edge_14` denotes edge 14. -/
theorem edge_14 : Named.named (F := Ideal) κ "edge_14" (φ := .f32) 0x3ECCCCCD#32 = edge 14 := by
  rw [show Named.named (F := Ideal) κ "edge_14" (φ := .f32) 0x3ECCCCCD#32 = _ from IdealRules.named_const.ideal_named_scalar _ _ _ _ rfl]
  simp only [edge]; norm_num

/-- The name `edge_16` denotes edge 16. -/
theorem edge_16 : Named.named (F := Ideal) κ "edge_16" (φ := .f32) 0x3F19999A#32 = edge 16 := by
  rw [show Named.named (F := Ideal) κ "edge_16" (φ := .f32) 0x3F19999A#32 = _ from IdealRules.named_const.ideal_named_scalar _ _ _ _ rfl]
  simp only [edge]; norm_num

/-- The name `edge_17` denotes edge 17. -/
theorem edge_17 : Named.named (F := Ideal) κ "edge_17" (φ := .f32) 0x3F333333#32 = edge 17 := by
  rw [show Named.named (F := Ideal) κ "edge_17" (φ := .f32) 0x3F333333#32 = _ from IdealRules.named_const.ideal_named_scalar _ _ _ _ rfl]
  simp only [edge]; norm_num

/-- The name `edge_18` denotes edge 18. -/
theorem edge_18 : Named.named (F := Ideal) κ "edge_18" (φ := .f32) 0x3F4CCCCD#32 = edge 18 := by
  rw [show Named.named (F := Ideal) κ "edge_18" (φ := .f32) 0x3F4CCCCD#32 = _ from IdealRules.named_const.ideal_named_scalar _ _ _ _ rfl]
  simp only [edge]; norm_num

/-- The name `edge_19` denotes edge 19. -/
theorem edge_19 : Named.named (F := Ideal) κ "edge_19" (φ := .f32) 0x3F666666#32 = edge 19 := by
  rw [show Named.named (F := Ideal) κ "edge_19" (φ := .f32) 0x3F666666#32 = _ from IdealRules.named_const.ideal_named_scalar _ _ _ _ rfl]
  simp only [edge]; norm_num

/-- Edge 0 is a float, and has no name. -/
theorem edge_0 : Ideal.ofBits .f32 0xBF800000#32 = edge 0 := by
  rw [Cert.Consts.ofBits_neg_one]; simp only [edge]; norm_num

/-- Edge 5 is a float, and has no name. -/
theorem edge_5 : Ideal.ofBits .f32 0xBF000000#32 = edge 5 := by
  rw [Cert.Consts.ofBits_neg_half]; simp only [edge]; norm_num

/-- Edge 15 is a float, and has no name. -/
theorem edge_15 : Ideal.ofBits .f32 0x3F000000#32 = edge 15 := by
  rw [Cert.Consts.ofBits_half]; simp only [edge]; norm_num

/-- Edge 10 is a float, and has no name. -/
theorem edge_10 : (0 : EReal) = edge 10 := by simp only [edge]; norm_num

/-- Edge 20 is a float, and has no name. -/
theorem edge_20 : (1 : EReal) = edge 20 := by simp only [edge]; norm_num

/-! ## The class of a row, and the block's sum -/

/-- The class word of every lane of row `r` is the label of the row's target. -/
theorem label_word (x1 : Vec Ideal S4096x1 .f32) (r : Fin 4096) (j : Fin 20) :
    k0_pay5 (F := Ideal) (k0_pay3 (F := Ideal) x1) (k0_pay4 (F := Ideal) x1) (ix2 r j)
      = BitVec.ofNat 32 (label (x1 (ix2 r 0))).val := by
  pointwise [k0_pay5, k0_pay4, k0_pay3]
  generalize x1 (ix2 r 0) = t
  have hb := below_le t
  have hs : BitVec.ofNat 32 (below t) = BitVec.ofNat 32 (0 + (if edge 0 < t then 1 else 0) + (if edge 1 < t then 1 else 0) + (if edge 2 < t then 1 else 0) + (if edge 3 < t then 1 else 0) + (if edge 4 < t then 1 else 0) + (if edge 5 < t then 1 else 0) + (if edge 6 < t then 1 else 0) + (if edge 7 < t then 1 else 0) + (if edge 8 < t then 1 else 0) + (if edge 9 < t then 1 else 0) + (if edge 10 < t then 1 else 0) + (if edge 11 < t then 1 else 0) + (if edge 12 < t then 1 else 0) + (if edge 13 < t then 1 else 0) + (if edge 14 < t then 1 else 0) + (if edge 15 < t then 1 else 0) + (if edge 16 < t then 1 else 0) + (if edge 17 < t then 1 else 0) + (if edge 18 < t then 1 else 0) + (if edge 19 < t then 1 else 0) + (if edge 20 < t then 1 else 0)) := by
    simp only [below, Fin.sum_univ_castSucc, Fin.sum_univ_zero]; rfl
  rw [edge_10, edge_20]
  simp only [edge_0, edge_1, edge_2, edge_3, edge_4, edge_5, edge_6, edge_7, edge_8, edge_9, edge_11, edge_12, edge_13, edge_14, edge_15, edge_16, edge_17, edge_18, edge_19, word_bit, addi_ofNat]
  rw [← hs, minsi_ofNat _ hb, label]

/-- The sum of a block's row losses: the log-sum-exps of its rows less the logits at their labels. -/
def part (x0 : Vec Ideal S4096x20 .f32) (x1 : Vec Ideal S4096x1 .f32) : EReal :=
  ∑ r : Fin 4096, lse (fun j => x0 (ix2 r j)) - ∑ r : Fin 4096, x0 (ix2 r (label (x1 (ix2 r 0))))

/-- A point adds its block's contribution to what the cell holds. -/
theorem pay_part (x0 : Vec Ideal S4096x20 .f32) (x1 : Vec Ideal S4096x1 .f32) (acc : Elt Ideal .f32) :
    k0_pay1 (F := Ideal) x0 (iota .tc S4096x20 32 [1] iota_S4096x20_d1_w32)
      (k0_pay5 (F := Ideal) (k0_pay3 (F := Ideal) x1) (k0_pay4 (F := Ideal) x1)) acc = (acc : EReal) + part x0 x1 := by
  have h (r : Fin 4096) : ∑ j : Fin 20, Scalar.select (IntOp.cmpi .eq (BitVec.ofNat 32 j.val)
      (k0_pay5 (F := Ideal) (k0_pay3 (F := Ideal) x1) (k0_pay4 (F := Ideal) x1) (ix2 r j))) (x0 (ix2 r j) : EReal) 0
      = x0 (ix2 r (label (x1 (ix2 r 0)))) := by
    simp only [label_word, select_eq_ofNat]
    exact sum_pick (fun j => x0 (ix2 r j)) _
  generalize hv : k0_pay5 (F := Ideal) (k0_pay3 (F := Ideal) x1) (k0_pay4 (F := Ideal) x1) = v at h ⊢
  pointwise [k0_pay1]
  unfold part lse
  rw [Finset.sum_congr rfl fun r _ => h r]

end Cert.KernelIdeal.Value

end
-- ==== Proof.KernelValue.lean ====
/- What the kernel's result holds: the sum of the rows' losses over the grid's 256 points, divided by the number of
   rows at the last point. -/
module

public import proofs.«01_k».proof.Proof.Block

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Loss

variable (m : (ℓ : Loc nD τ sig) → Buf (Elt Ideal) ℓ)

/-- Where point `t`'s blocks lie: block `t` of the logits and of the targets, and the one cell of the result. -/
theorem idx : ∀ t : Fin cfg0.N, win0_0.index t = ![t.val, 0] ∧ win0_1.index t = ![t.val, 0] ∧ win0_2.index t = ![0, 0] :=
  (by decide +kernel : ∀ t : Fin grid0.N, _)

/-- The cell's offsets are zero. -/
theorem hz : (![0, 0] : Fin 2 → Nat) = fun _ => 0 := funext fun a => by fin_cases a <;> rfl

/-- The result's block has one index. -/
theorem idx_one (j : S1x1.Idx) : j = ix2 0 0 := by
  funext a
  match a with
  | ⟨0, _⟩ => exact Fin.ext (by have : (j 0 : ℕ) < 1 := (j 0).isLt; show (j 0 : ℕ) = 0; omega)
  | ⟨1, _⟩ => exact Fin.ext (by have : (j 1 : ℕ) < 1 := (j 1).isLt; show (j 1 : ℕ) = 0; omega)

/-- What the scalar load of the result's one cell reads. -/
theorem ld_one (v : Vec Ideal S1x1 .f32) (h) (j : S1x1.Idx) :
    View.ld v (Rect.unit (s := S1x1) ![0, 0] ![1, 1] h) j = v (ix2 0 0) := by
  rw [View.ld_unit_zero (S := S1x1) hz, idx_one j]

/-- The first point leaves its own block's sum. -/
theorem first (c : Dev nD) (t : Fin cfg0.N) (h0 : t.val % 256 = 0) (h1 : ¬t.val % 256 = 255) (j : S1x1.Idx) :
    outsAt0 m c t.val t.isLt j = part (iblk m c 0 t) (iblk m c 1 t) := by
  rw [outsAt0_A m c t h0 h1]
  frame_out
  rw [pay_part]
  show Ideal.ofBits .f32 0x00000000#32 + _ = _
  rw [Ideal.ofBits_zero_f32, zero_add]

/-- A middle point adds its block's sum. -/
theorem middle (c : Dev nD) (t : Fin cfg0.N) (h0 : ¬t.val % 256 = 0) (h1 : ¬t.val % 256 = 255) (j : S1x1.Idx) :
    outsAt0 m c t.val t.isLt j
      = (outsAt0 m c (t.val - 1) (Nat.lt_of_le_of_lt (Nat.sub_le _ _) t.isLt) (ix2 0 0) + part (iblk m c 0 t) (iblk m c 1 t) : EReal) := by
  rw [outsAt0_B m c t h0 h1]
  frame_out
  rw [pay_part, ld_one]

/-- The last point adds its block's sum and divides by the number of rows. -/
theorem last (c : Dev nD) (t : Fin cfg0.N) (h0 : ¬t.val % 256 = 0) (h1 : t.val % 256 = 255) (j : S1x1.Idx) :
    outsAt0 m c t.val t.isLt j
      = Ideal.div (outsAt0 m c (t.val - 1) (Nat.lt_of_le_of_lt (Nat.sub_le _ _) t.isLt) (ix2 0 0) + part (iblk m c 0 t) (iblk m c 1 t) : EReal)
          (Ideal.ofBits .f32 0x49800000#32) := by
  rw [outsAt0_C m c t h0 h1]
  frame_out
  rw [pay_part, ld_one]
  rfl

/-- The sum of block `n`. -/
def partAt (c : Dev nD) (n : ℕ) : EReal := if h : n < cfg0.N then part (iblk m c 0 ⟨n, h⟩) (iblk m c 1 ⟨n, h⟩) else 0

/-- `partAt` at a grid point. -/
theorem partAt_val (c : Dev nD) (t : Fin cfg0.N) : partAt m c t.val = part (iblk m c 0 t) (iblk m c 1 t) := dif_pos t.isLt

/-- Before the last point the result's cell holds the sum of the blocks so far. -/
theorem running (c : Dev nD) : ∀ (n : ℕ) (hn : n < cfg0.N) (h : n < 255) (j : S1x1.Idx),
    outsAt0 m c n hn j = ∑ p ∈ Finset.range (n + 1), partAt m c p
  | 0, hn, h, j => by
    refine (first m c ⟨0, hn⟩ (by dsimp only) (by dsimp only; omega) j).trans ?_
    rw [Finset.sum_range_one]
    exact (partAt_val m c ⟨0, hn⟩).symm
  | n + 1, hn, h, j => by
    refine (middle m c ⟨n + 1, hn⟩ (by dsimp only; omega) (by dsimp only; omega) j).trans ?_
    rw [Finset.sum_range_succ, ← partAt_val m c ⟨n + 1, hn⟩]
    exact congrArg (· + partAt m c (n + 1)) (running c n (Nat.lt_of_succ_lt hn) (by omega) (ix2 0 0))

/-- At the last point it holds their sum divided by the number of rows. -/
theorem at_last (c : Dev nD) (t : Fin cfg0.N) (h1 : t.val % 256 = 255) (j : S1x1.Idx) :
    outsAt0 m c t.val t.isLt j = Ideal.div (∑ p : Fin 256, partAt m c p) (Ideal.ofBits .f32 0x49800000#32) := by
  have hN : t.val < 256 := lt_of_lt_of_eq t.isLt (show cfg0.N = 256 from N_0)
  have ht : t.val = 255 := by omega
  refine (last m c t (by omega) h1 j).trans ?_
  refine congrArg (Ideal.div · _) ?_
  rw [running m c (t.val - 1) _ (by omega) (ix2 0 0), ← partAt_val m c t, ht, Finset.sum_range (partAt m c), ]
  exact ((Fin.sum_univ_castSucc fun p : Fin 256 => partAt m c p)).symm

/-- Row `r` of block `t` of the logits. -/
theorem logits_at (c : Dev nD) (t : Fin cfg0.N) (r : Fin 4096) (j : Fin 20) (h : t.val * 4096 + r.val < 1048576) :
    iblk m c 0 t (ix2 r j) = m ((c.tc : Thread nD τ).loc main_arg0) (ix2 ⟨t.val * 4096 + r.val, h⟩ j) := by
  blk_point [iblk, V, idx t]

/-- The targets as the region reads them: one column. -/
theorem entry_target (c : Dev nD) :
    V m c main_v0 = shapeCast S1048576x1 (m ((c.tc : Thread nD τ).loc main_arg1)) shapeCasts_S1048576_S1048576x1 := by
  show StableHlo.after hostOps0 (fun b => m (c, b)) (Proc.devRef .tc main_v0) = _
  after_results_simp
  rfl

/-- Row `r` of block `t` of the targets. -/
theorem target_at (c : Dev nD) (t : Fin cfg0.N) (r : Fin 4096) (h : t.val * 4096 + r.val < 1048576) :
    iblk m c 1 t (ix2 r 0) = m ((c.tc : Thread nD τ).loc main_arg1) (ix1 ⟨t.val * 4096 + r.val, h⟩) := by
  blk_simp [iblk, idx t]
  rw [entry_target m c]
  pointwise
  refine congrArg (fun q : Fin 1048576 => m ((c.tc : Thread nD τ).loc main_arg1) (ix1 q)) (Fin.ext ?_)
  blk_simp [idx t]

/-- The mean loss over all rows, in the form the reference's value takes. -/
def mean (x : Vec Ideal S1048576x20 .f32) (t : Vec Ideal S1048576 .f32) : EReal :=
  Ideal.div (∑ i : Fin 1048576, (lse (fun j : Fin 20 => x (ix2 i j)) - x (ix2 i (label (t (ix1 i)))) : EReal))
    (Ideal.ofBits .f32 0x49800000#32)

/-- The blocks' sums make up the sum over all rows, when no logit is plus infinity. -/
theorem total (c : Dev nD) (hx : ∀ i j, m ((c.tc : Thread nD τ).loc main_arg0) (ix2 i j) ≠ (⊤ : EReal)) :
    Ideal.div (∑ p : Fin 256, partAt m c p) (Ideal.ofBits .f32 0x49800000#32)
      = mean (m ((c.tc : Thread nD τ).loc main_arg0)) (m ((c.tc : Thread nD τ).loc main_arg1)) := by
  refine congrArg (Ideal.div · _) ?_
  have step : ∀ p : Fin 256, partAt m c p = ∑ r : Fin 4096,
      (lse (fun j => iblk m c 0 ⟨p.val, p.isLt.trans_eq N_0.symm⟩ (ix2 r j))
        - iblk m c 0 ⟨p.val, p.isLt.trans_eq N_0.symm⟩ (ix2 r (label (iblk m c 1 ⟨p.val, p.isLt.trans_eq N_0.symm⟩ (ix2 r 0)))) : EReal) := by
    intro p
    refine (partAt_val m c ⟨p.val, p.isLt.trans_eq N_0.symm⟩).trans ?_
    refine sum_sub_sum Finset.univ
      (fun r : Fin 4096 => lse (fun j => iblk m c 0 ⟨p.val, p.isLt.trans_eq N_0.symm⟩ (ix2 r j)))
      (fun r => iblk m c 0 ⟨p.val, p.isLt.trans_eq N_0.symm⟩ (ix2 r (label (iblk m c 1 ⟨p.val, p.isLt.trans_eq N_0.symm⟩ (ix2 r 0))))) fun r => ?_
    beta_reduce
    rw [logits_at m c ⟨p.val, p.isLt.trans_eq N_0.symm⟩ r _ (by have := p.isLt; have := r.isLt; dsimp only; omega)]
    exact hx _ _
  refine (Finset.sum_congr rfl fun p _ => step p).trans ?_
  refine Fin.sum_mul_add_congr fun p r hl => ?_
  rw [logits_at m c ⟨p.val, p.isLt.trans_eq N_0.symm⟩ r _ hl, target_at m c ⟨p.val, p.isLt.trans_eq N_0.symm⟩ r hl]
  refine congrArg (lse · - _) (funext fun j => ?_)
  exact logits_at m c ⟨p.val, p.isLt.trans_eq N_0.symm⟩ r j hl

/-- The array the region leaves: its one cell is the mean loss. -/
theorem arr (c : Dev nD) (hx : ∀ i j, m ((c.tc : Thread nD τ).loc main_arg0) (ix2 i j) ≠ (⊤ : EReal)) :
    (dats m 0 c).arrAt 2 (cfgs 0).N
      = fun _ => mean (m ((c.tc : Thread nD τ).loc main_arg0)) (m ((c.tc : Thread nD τ).loc main_arg1)) := by
  refine (dats m 0 c).arrAt_eq_of_covers 2 _ (by decide +kernel) fun t hf y => ?_
  rw [after0_2]
  blk_simp
  exact (at_last m c t ((flush0_2 t).mp hf) _).trans (total m c hx)

/-- The array as the line after the region reads it. -/
theorem exit_array (c : Dev nD) :
    Pipeline.withArrays (cfgs 0).spec c (V0 m c) (fun w => (dats m 0 c).arrAt w (cfgs 0).N) (Proc.devRef .tc main_v1)
      = (dats m 0 c).arrAt 2 (cfgs 0).N :=
  Pipeline.withArrays_arr (cfgs 0).spec (by decide) c (V0 m c) (fun w => (dats m 0 c).arrAt w (cfgs 0).N) 2

/-- The kernel's result is the mean loss. -/
theorem result (c : Dev nD) (hx : ∀ i j, m ((c.tc : Thread nD τ).loc main_arg0) (ix2 i j) ≠ (⊤ : EReal)) :
    Pipeline.afterTail₀ cfgs (dats m) 0 (V0 m) [hostOps1] c main_v2
      = fun _ => mean (m ((c.tc : Thread nD τ).loc main_arg0)) (m ((c.tc : Thread nD τ).loc main_arg1)) := by
  unfold Pipeline.afterTail₀
  show StableHlo.after hostOps1 _ (Proc.devRef .tc main_v2) = _
  after_results_simp
  rw [exit_array, arr m c hx]
  rfl

end Cert.KernelIdeal.Value

end
-- ==== Proof.Rows.lean ====
/- Host operations over a table of rows, read at an index, at any number of rows: the sum of each row, the sum of a
   vector, and the entry of each row that an index vector names. -/
module

public import Idealize.ShloMosaic.Lib.Pipeline.ValueKit
public import Idealize.ShloMosaic.Lib.Pointwise
public import Idealize.ShloMosaic.Lib.IdealHost

@[expose] public section

noncomputable section

namespace Cert.Loss

open Idealize.ShloMosaic

/-- The host's sum of each row from zero. -/
theorem sum_cols {n k : ℕ} (v : FVec Ideal ⟨2, ![n, k]⟩ .f32) (h : (⟨2, ![n, k]⟩ : Shape).ReducesTo [1] ⟨1, ![n]⟩)
    {u : Shape} (hu : 0 < u.numel) (i : Fin n) :
    Host.reduceAdd v (constant u .f32 0x00000000#32) h hu (ix1 i) = (∑ j : Fin k, v (ix2 i j) : EReal) := by
  rw [ValueIdx.hostReduceAdd_apply, Ideal.hostReduceAdd_r2_a1]
  show Ideal.ofBits .f32 0x00000000#32 + _ = _
  rw [Ideal.ofBits_zero_f32, zero_add]
  rfl

/-- The host's sum of a vector from zero. -/
theorem sum_all {n : ℕ} (v : FVec Ideal ⟨1, ![n]⟩ .f32) (h : (⟨1, ![n]⟩ : Shape).ReducesTo [0] ⟨0, ![]⟩)
    {u : Shape} (hu : 0 < u.numel) (i : (⟨0, ![]⟩ : Shape).Idx) :
    Host.reduceAdd v (constant u .f32 0x00000000#32) h hu i = (∑ j : Fin n, v (ix1 j) : EReal) := by
  rw [ValueIdx.hostReduceAdd_apply, Ideal.hostReduceAdd_r1_a0]
  show Ideal.ofBits .f32 0x00000000#32 + _ = _
  rw [Ideal.ofBits_zero_f32, zero_add]

/-- The dimension numbers of a gather of one entry of each row: the rows are a batching axis, the columns are indexed. -/
abbrev alongDims (N C : ℕ) (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- Such a gather at row `i` reads the row's entry `k` where the index holds `k`. -/
theorem gather_along {α : Type} {N C : ℕ} (wf) (x : (⟨2, ![N, C]⟩ : Shape).Idx → α) (idx : IVec ⟨3, ![N, 1, 1]⟩ 32)
    (i : Fin N) (k : Fin C) (hk : (idx (ix3 i 0 0)).toInt = k.val) :
    Host.gather (alongDims N C wf) x idx (ix2 i 0) = x (ix2 i k) := by
  unfold Host.gather
  refine congrArg x (funext fun a => Fin.ext ?_)
  show (alongDims N C wf).start (ix2 i 0) idx a + (alongDims N C wf).batchCoord (ix2 i 0) a
    + (alongDims N C wf).offCoord (ix2 i 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims N C wf).startIndexMap from List.mem_singleton.mpr rfl)]
    have hsi : (alongDims N C wf).siIdx (ix2 i 0) ⟨List.idxOf (1 : Fin 2) (alongDims N C wf).startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hk]
    have := k.isLt
    show min ((k.val : Int)).toNat (C - 1) = k.val
    omega

end Cert.Loss

end
-- ==== Proof.RefValue.lean ====
/- What the reference computes: the mean over the rows of the row's loss. -/
module

public import proofs.«01_k».proof.Proof.Loss
public import proofs.«01_k».proof.Proof.Consts
public import proofs.«01_k».proof.Proof.Words
public import proofs.«01_k».proof.Proof.Gen.ReferenceIdeal.Run
public import Idealize.ShloMosaic.Lib.Pipeline.ValueKit
public import Idealize.ShloMosaic.Lib.Pointwise
public import proofs.«01_k».proof.Proof.Rows

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Loss

/-! ## The reference's stages -/

/-- The reference's edges. -/
def edgesR : FVec Ideal S21 .f32 :=
  concatenate S21 0 [⟨S20, (addf (mulf (broadcastInDim S20 ![0] bcast_S1_S20_0 (shapeCast S1 (id (constant S_ .f32 0xBF800000#32)) shapeCasts_S_S1)) (subf (broadcastInDim S20 ![] bcast_S_S20 (constant S_ .f32 0x3F800000#32)) (Host.divf (sitofp .f32 (iotaInDim S20 32 0)) (broadcastInDim S20 ![] bcast_S_S20 (constant S_ .f32 0x41A00000#32))))) (mulf (broadcastInDim S20 ![0] bcast_S1_S20_0 (shapeCast S1 (id (constant S_ .f32 0x3F800000#32)) shapeCasts_S_S1)) (Host.divf (sitofp .f32 (iotaInDim S20 32 0)) (broadcastInDim S20 ![] bcast_S_S20 (constant S_ .f32 0x41A00000#32)))))⟩, ⟨S1, (broadcastInDim S1 ![] bcast_S_S1 (id (constant S_ .f32 0x3F800000#32)))⟩] concatenates_S20_S1_S21_d0

/-- The number of edges below each target. -/
def countR (t : FVec Ideal S1048576 .f32) : IVec S1048576 32 :=
  Host.reduce IntOp.addi (extui 32 (cmpf .olt (broadcastInDim S1048576x21 ![0, 1] bcast_S1x21_S1048576x21_0_1 (broadcastInDim S1x21 ![1] bcast_S21_S1x21_1 edgesR)) (broadcastInDim S1048576x21 ![0, 1] bcast_S1048576x1_S1048576x21_0_1 (broadcastInDim S1048576x1 ![0] bcast_S1048576_S1048576x1_0 t))) natLt_1_32) (constantI S_ 32 0#32) reducesTo_S1048576x21_S1048576_d1 h_S_

/-- The class of each target: the count, with the count twenty sent to class nineteen. -/
def classR (t : FVec Ideal S1048576 .f32) : IVec S1048576 32 :=
  select (cmpi .eq (countR t) (broadcastInDim S1048576 ![] bcast_S_S1048576 (constantI S_ 32 20#32))) (broadcastInDim S1048576 ![] bcast_S_S1048576 (id (constantI S_ 32 19#32))) (countR t)

/-- A row's class as an index of its logits, with a negative one counted from the end. -/
def pickIx (y : IVec S1048576 32) : IVec S1048576x1x1 32 :=
  shapeCast S1048576x1x1 (select (cmpi .slt (broadcastInDim S1048576x1 ![0] bcast_S1048576_S1048576x1_0 y) (broadcastInDim S1048576x1 ![] bcast_S_S1048576x1 (constantI S_ 32 0#32))) (addi (broadcastInDim S1048576x1 ![0] bcast_S1048576_S1048576x1_0 y) (broadcastInDim S1048576x1 ![] bcast_S_S1048576x1 (constantI S_ 32 20#32))) (broadcastInDim S1048576x1 ![0] bcast_S1048576_S1048576x1_0 y)) shapeCasts_S1048576x1_S1048576x1x1

/-- The logits that a vector of classes picks. -/
def pickR (x : FVec Ideal S1048576x20 .f32) (y : IVec S1048576 32) : FVec Ideal S1048576 .f32 :=
  shapeCast S1048576 (select (Host.reduce IntOp.andi (andi (cmpi .sge (pickIx y) (broadcastInDim S1048576x1x1 ![] bcast_S_S1048576x1x1 (constantI S_ 32 0#32))) (cmpi .sle (pickIx y) (broadcastInDim S1048576x1x1 ![0, 1, 2] bcast_S1x1x1_S1048576x1x1_0_1_2 (broadcastInDim S1x1x1 ![2] bcast_S1_S1x1x1_2 (constantI S1 32 19#32))))) (constantI S_ 1 1#1) reducesTo_S1048576x1x1_S1048576x1_d2 h_S_) (Host.gather gather_S1048576x20_S1048576x1x1_S1048576x1_n_1_0_0_1_2_11 x (pickIx y)) (broadcastInDim S1048576x1 ![] bcast_S_S1048576x1 (constant S_ .f32 0x7FC00000#32))) shapeCasts_S1048576x1_S1048576

/-- The maximum of each row. -/
def rowMax (x : FVec Ideal S1048576x20 .f32) : FVec Ideal S1048576 .f32 :=
  Host.reduce FloatOps.maximumf x (constant S_ .f32 0xFF800000#32) reducesTo_S1048576x20_S1048576_d1 h_S_

/-- The sum of each row's exponentials about the row's maximum. -/
def sumExp (x : FVec Ideal S1048576x20 .f32) : FVec Ideal S1048576 .f32 :=
  Host.reduceAdd (Host.exp (subf x (broadcastInDim S1048576x20 ![0, 1] bcast_S1048576x1_S1048576x20_0_1 (broadcastInDim S1048576x1 ![0] bcast_S1048576_S1048576x1_0 (rowMax x))))) (constant S_ .f32 0x00000000#32) reducesTo_S1048576x20_S1048576_d1 h_S_

/-- The log-sum-exp of each row, about the row's maximum. -/
def logz (x : FVec Ideal S1048576x20 .f32) : FVec Ideal S1048576 .f32 := addf (rowMax x) (Host.log (sumExp x))

/-- The sum of the rows' losses. -/
def sumR (x : FVec Ideal S1048576x20 .f32) (t : FVec Ideal S1048576 .f32) : FVec Ideal S_ .f32 :=
  Host.reduceAdd (subf (logz x) (pickR x (classR t))) (constant S_ .f32 0x00000000#32) reducesTo_S1048576_S_d0 h_S_

/-- The whole: the mean of the differences. -/
def lossR (x : FVec Ideal S1048576x20 .f32) (t : FVec Ideal S1048576 .f32) : FVec Ideal S_ .f32 :=
  Host.divf (sumR x t) (constant S_ .f32 0x49800000#32)

set_option maxHeartbeats 1000000 in
/-- The reference's result is its stages composed. -/
theorem res_eq (m : (ℓ : Loc nD τ sig) → Buf (Elt Ideal) ℓ) (c : Dev nD) :
    res_main_v24 (F := Ideal) m c = lossR (m ((c.tc : Thread nD τ).loc main_arg0)) (m ((c.tc : Thread nD τ).loc main_arg1)) := rfl

/-! ## Each stage at an index -/

/-- Edge `k` of the reference. -/
theorem edgesR_at (k : Fin 21) : edgesR (ix1 k) = edge k := by
  have hk : (FloatOps.sitofp (F := Ideal) .f32 (BitVec.ofNat 32 k.val) : EReal) = ((k.val : ℝ) : EReal) := by
    fin_cases k <;> simp [FloatOps.sitofp]
  pointwise [edgesR]
  split
  · show Ideal.ofBits .f32 0xBF800000#32 * (1 - Ideal.div _ _) + Ideal.ofBits .f32 0x3F800000#32 * Ideal.div _ _ = edge k
    rw [hk, Cert.Consts.ofBits_twenty, Cert.Consts.ofBits_neg_one, Ideal.ofBits_one_f32, one_mul, Ideal.div_coe (by norm_num),
      ← EReal.coe_mul, ← EReal.coe_one, ← EReal.coe_sub, ← EReal.coe_mul, ← EReal.coe_add, edge]
    congr 1; ring
  · show Ideal.ofBits .f32 0x3F800000#32 = edge k
    rw [Ideal.ofBits_one_f32, show k = Fin.last 20 from Fin.ext (by have := k.isLt; simp only [Fin.val_last]; omega), edge]
    norm_num

/-- The count of row `i` is the number of edges below its target. -/
theorem countR_at (t : FVec Ideal S1048576 .f32) (i : Fin 1048576) : countR t (ix1 i) = BitVec.ofNat 32 (below (t (ix1 i))) := by
  pointwise [countR]
  simp only [edgesR_at, word_bit]
  exact fold_addi_ofNat _ _

/-- The class of row `i` is the label of its target, which is at most the last edge. -/
theorem classR_at (t : FVec Ideal S1048576 .f32) (i : Fin 1048576) (ht : t (ix1 i) ≤ 1) :
    classR t (ix1 i) = BitVec.ofNat 32 (label (t (ix1 i))).val := by
  have hb := below_le_of_le ht
  pointwise [classR]
  rw [countR_at]
  exact select_twenty _ hb

/-- A class within range is its own index. -/
theorem pickIx_at (y : IVec S1048576 32) (i : Fin 1048576) (k : Fin 20) (hy : y (ix1 i) = BitVec.ofNat 32 k.val) :
    pickIx y (ix3 i 0 0) = BitVec.ofNat 32 k.val := by
  pointwise [pickIx]
  rw [hy]
  fin_cases k <;> rfl

/-- A class within range picks its logit. -/
theorem pickR_at (x : FVec Ideal S1048576x20 .f32) (y : IVec S1048576 32) (i : Fin 1048576) (k : Fin 20) (hy : y (ix1 i) = BitVec.ofNat 32 k.val) :
    pickR x y (ix1 i) = x (ix2 i k) := by
  have hi := pickIx_at y i k hy
  have hg : Host.gather gather_S1048576x20_S1048576x1x1_S1048576x1_n_1_0_0_1_2_11 x (pickIx y) (ix2 i 0) = x (ix2 i k) :=
    gather_along gather_S1048576x20_S1048576x1x1_S1048576x1_n_1_0_0_1_2_11_wf x (pickIx y) i k (by rw [hi]; fin_cases k <;> rfl)
  pointwise [pickR]
  rw [hg, Finset.univ_unique, Finset.fold_singleton]
  simp only [Fin.default_eq_zero, hi]
  have : IntOp.andi (IntOp.andi (IntOp.cmpi .sge (BitVec.ofNat 32 k.val) 0#32) (IntOp.cmpi .sle (BitVec.ofNat 32 k.val) 19#32)) 1#1 = 1#1 := by
    fin_cases k <;> rfl
  rw [this]
  rfl

/-- The maximum of row `i`. -/
theorem rowMax_at (x : FVec Ideal S1048576x20 .f32) (i : Fin 1048576) :
    rowMax x (ix1 i) = Finset.univ.fold max ⊥ fun j : Fin 20 => x (ix2 i j) := by
  pointwise [rowMax]
  rw [Cert.Consts.ofBits_bot]

/-- The sum of the exponentials of row `i` about its maximum. -/
theorem sumExp_at (x : FVec Ideal S1048576x20 .f32) (i : Fin 1048576) :
    sumExp x (ix1 i) = ∑ j : Fin 20, Ideal.exp (x (ix2 i j) - rowMax x (ix1 i)) := by
  refine (sum_cols _ reducesTo_S1048576x20_S1048576_d1 h_S_ i).trans (Finset.sum_congr rfl fun j _ => ?_)
  pointwise

/-- A sum with a logarithm, at an index. -/
theorem addf_log_at {s : Shape} (a b : FVec Ideal s .f32) (i : s.Idx) : addf a (Host.log b) i = (a i + Ideal.log (b i) : EReal) := rfl

/-- A difference, at an index. -/
theorem subf_at {s : Shape} (a b : FVec Ideal s .f32) (i : s.Idx) : subf a b i = (a i - b i : EReal) := rfl

/-- The reference's logsumexp at a row, in terms of its two stages. -/
theorem logz_split (x : FVec Ideal S1048576x20 .f32) (i : Fin 1048576) :
    logz x (ix1 i) = rowMax x (ix1 i) + Ideal.log (sumExp x (ix1 i)) := addf_log_at (rowMax x) (sumExp x) (ix1 i)

/-- The log-sum-exp of a row without `+∞`. -/
theorem logz_at (x : FVec Ideal S1048576x20 .f32) (i : Fin 1048576) (hx : ∀ j, x (ix2 i j) ≠ ⊤) :
    logz x (ix1 i) = lse fun j : Fin 20 => x (ix2 i j) :=
  (logz_split x i).trans (by
    rw [sumExp_at, rowMax_at]
    exact lse_max _ hx)

/-- The loss of a row. -/
theorem diff_at (x : FVec Ideal S1048576x20 .f32) (t : FVec Ideal S1048576 .f32) (i : Fin 1048576) (hx : ∀ j, x (ix2 i j) ≠ ⊤) (ht : t (ix1 i) ≤ 1) :
    subf (logz x) (pickR x (classR t)) (ix1 i) = (lse (fun j : Fin 20 => x (ix2 i j)) - x (ix2 i (label (t (ix1 i)))) : EReal) := by
  rw [subf_at, logz_at x i hx, pickR_at x _ i _ (classR_at t i ht)]

/-- The sum of the losses as a sum over the rows. -/
theorem sumR_split (x : FVec Ideal S1048576x20 .f32) (t : FVec Ideal S1048576 .f32) :
    sumR x t ix0 = (∑ i : Fin 1048576, subf (logz x) (pickR x (classR t)) (ix1 i) : EReal) :=
  sum_all (subf (logz x) (pickR x (classR t))) reducesTo_S1048576_S_d0 h_S_ ix0

/-- The sum of the rows' losses. -/
theorem sumR_at (x : FVec Ideal S1048576x20 .f32) (t : FVec Ideal S1048576 .f32) (hx : ∀ i j, x (ix2 i j) ≠ ⊤) (ht : ∀ i, t (ix1 i) ≤ 1) :
    sumR x t ix0 = ∑ i : Fin 1048576, (lse (fun j : Fin 20 => x (ix2 i j)) - x (ix2 i (label (t (ix1 i))))) :=
  (sumR_split x t).trans (Finset.sum_congr rfl fun i _ => diff_at x t i (hx i) (ht i))

/-- The mean of the rows' losses. -/
theorem lossR_at (x : FVec Ideal S1048576x20 .f32) (t : FVec Ideal S1048576 .f32) (hx : ∀ i j, x (ix2 i j) ≠ ⊤) (ht : ∀ i, t (ix1 i) ≤ 1) :
    lossR x t ix0 = Ideal.div (∑ i : Fin 1048576, (lse (fun j : Fin 20 => x (ix2 i j)) - x (ix2 i (label (t (ix1 i))))))
      (Ideal.ofBits .f32 0x49800000#32) := by
  rw [← sumR_at x t hx ht]
  pointwise [lossR]

end Cert.ReferenceIdeal.Value

end
-- ==== Proof.lean ====
/- The proof of the certificate's claims: the frames of the three programs, the sixteen named edges, and the equation
   between the kernel's result and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.InRange
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Each named edge is the rational its literal rounds. -/
theorem edges : Cert.preserves_Kernel_KernelIdeal :=
  ⟨IdealRules.named_const.statement Cert.KernelIdeal.κ "edge_1" .f32 0xBF666666#32 ((-9 / 10 : ℝ) : EReal) rfl,
    IdealRules.named_const.statement Cert.KernelIdeal.κ "edge_2" .f32 0xBF4CCCCD#32 ((-4 / 5 : ℝ) : EReal) rfl,
    IdealRules.named_const.statement Cert.KernelIdeal.κ "edge_3" .f32 0xBF333333#32 ((-7 / 10 : ℝ) : EReal) rfl,
    IdealRules.named_const.statement Cert.KernelIdeal.κ "edge_4" .f32 0xBF19999A#32 ((-3 / 5 : ℝ) : EReal) rfl,
    IdealRules.named_const.statement Cert.KernelIdeal.κ "edge_6" .f32 0xBECCCCCD#32 ((-2 / 5 : ℝ) : EReal) rfl,
    IdealRules.named_const.statement Cert.KernelIdeal.κ "edge_7" .f32 0xBE99999A#32 ((-3 / 10 : ℝ) : EReal) rfl,
    IdealRules.named_const.statement Cert.KernelIdeal.κ "edge_8" .f32 0xBE4CCCCD#32 ((-1 / 5 : ℝ) : EReal) rfl,
    IdealRules.named_const.statement Cert.KernelIdeal.κ "edge_9" .f32 0xBDCCCCCD#32 ((-1 / 10 : ℝ) : EReal) rfl,
    IdealRules.named_const.statement Cert.KernelIdeal.κ "edge_11" .f32 0x3DCCCCCD#32 ((1 / 10 : ℝ) : EReal) rfl,
    IdealRules.named_const.statement Cert.KernelIdeal.κ "edge_12" .f32 0x3E4CCCCD#32 ((1 / 5 : ℝ) : EReal) rfl,
    IdealRules.named_const.statement Cert.KernelIdeal.κ "edge_13" .f32 0x3E99999A#32 ((3 / 10 : ℝ) : EReal) rfl,
    IdealRules.named_const.statement Cert.KernelIdeal.κ "edge_14" .f32 0x3ECCCCCD#32 ((2 / 5 : ℝ) : EReal) rfl,
    IdealRules.named_const.statement Cert.KernelIdeal.κ "edge_16" .f32 0x3F19999A#32 ((3 / 5 : ℝ) : EReal) rfl,
    IdealRules.named_const.statement Cert.KernelIdeal.κ "edge_17" .f32 0x3F333333#32 ((7 / 10 : ℝ) : EReal) rfl,
    IdealRules.named_const.statement Cert.KernelIdeal.κ "edge_18" .f32 0x3F4CCCCD#32 ((4 / 5 : ℝ) : EReal) rfl,
    IdealRules.named_const.statement Cert.KernelIdeal.κ "edge_19" .f32 0x3F666666#32 ((9 / 10 : ℝ) : EReal) rfl⟩

/-- The reference runs, leaves its arguments and ends with every counter at zero. -/
theorem reference_frame : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- The kernel and the reference end with the same mean loss. -/
theorem equal : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  have hx := fun c => Cert.Pre_in_range.logits (hpre c)
  have ht := fun c => Cert.Pre_in_range.targets (hpre c)
  refine ⟨fun c _ => Cert.KernelIdeal.Value.mean (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, h.2 c⟩)
      (θ_run_and (Cert.KernelIdeal.Gen.run_main m g) (Cert.KernelIdeal.Gen.unchanged m g))
    exact ((h.1 c).2 Cert.KernelIdeal.main_v2 (Pipeline.mem_restRefs_of Cert.KernelIdeal.main_v2 (by decide) (by decide))).trans
      (Cert.KernelIdeal.Value.result m c (hx c))
  · refine (θ_run Cert.ReferenceIdeal.defs _ _).mono (fun r h c => ⟨(h c).1.trans ?_, (h c).2⟩) (Cert.ReferenceIdeal.Value.run m' g')
    rw [Cert.ReferenceIdeal.Value.res_eq, (hagree c).1, (hagree c).2]
    refine funext fun i => ?_
    rw [show i = ix0 from funext fun d => d.elim0]
    exact Cert.ReferenceIdeal.Value.lossR_at _ _ (hx c) (ht c)

/-- All the claims. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  edges,
  equal⟩

end Cert.Proof

end
